-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_norms_on_finite_data [hPre_plain_norms_on_finite_data : Cert.Pre_plain_norms_on_finite_data.Facts] (m : (ℓ : Loc Cert.KernelIdeal.nD Cert.KernelIdeal.τ Cert.KernelIdeal.sig) → Buf (Elt Ideal) ℓ) : Prop :=
  ∀ c : Dev Cert.KernelIdeal.nD,
    (Cert.Pre_plain_norms_on_finite_data.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_norms_on_finite_data [hPre_plain_norms_on_finite_data : Cert.Pre_plain_norms_on_finite_data.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_norms_on_finite_data.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_plain_norms_on_finite_data [hKernelIdeal : Cert.KernelIdeal.Facts] [hPre_plain_norms_on_finite_data : Cert.Pre_plain_norms_on_finite_data.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_norms_on_finite_data m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_plain_norms_on_finite_data [hReferenceIdeal : Cert.ReferenceIdeal.Facts] [hPre_plain_norms_on_finite_data : Cert.Pre_plain_norms_on_finite_data.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_norms_on_finite_data m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_plain_norms_on_finite_data [hKernelIdeal : Cert.KernelIdeal.Facts] [hReferenceIdeal : Cert.ReferenceIdeal.Facts] [hPre_plain_norms_on_finite_data : Cert.Pre_plain_norms_on_finite_data.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_norms_on_finite_data m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_plain_norms_on_finite_data : Cert.Pre_plain_norms_on_finite_data.Facts),
    quiescent_Kernel (hKernel := hKernel)
    ∧ quiescent_KernelIdeal (hKernelIdeal := hKernelIdeal)
    ∧ quiescent_KernelIdeal_pre_plain_norms_on_finite_data (hKernelIdeal := hKernelIdeal) (hPre_plain_norms_on_finite_data := hPre_plain_norms_on_finite_data)
    ∧ quiescent_ReferenceIdeal (hReferenceIdeal := hReferenceIdeal)
    ∧ quiescent_ReferenceIdeal_pre_plain_norms_on_finite_data (hReferenceIdeal := hReferenceIdeal) (hPre_plain_norms_on_finite_data := hPre_plain_norms_on_finite_data)
    ∧ preserves_Kernel_KernelIdeal
    ∧ algebraic_KernelIdeal_ReferenceIdeal_pre_plain_norms_on_finite_data (hKernelIdeal := hKernelIdeal) (hReferenceIdeal := hReferenceIdeal) (hPre_plain_norms_on_finite_data := hPre_plain_norms_on_finite_data)
-- ==== Pre_plain_norms_on_finite_data.lean ====
abbrev S10000x256 : Shape := ⟨2, ![10000, 256]⟩
abbrev S2x160000 : Shape := ⟨2, ![2, 160000]⟩
abbrev S160000x16 : Shape := ⟨2, ![160000, 16]⟩
abbrev S1x64 : Shape := ⟨2, ![1, 64]⟩
abbrev S10000 : Shape := ⟨1, ![10000]⟩
abbrev S160000 : Shape := ⟨1, ![160000]⟩
abbrev S256x256 : Shape := ⟨2, ![256, 256]⟩
abbrev S256 : Shape := ⟨1, ![256]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg11 : FVec F S256 .f32) (main_v29 : IVec S_ 1) (main_v32 : IVec S256x256 1) : IVec S_ 1 :=
  let main_c_13 : IVec S_ 1 := constantI S_ 1 1#1
  let main_v33 : IVec S_ 1 := (fun x v => Host.reduce IntOp.andi x v reducesTo_S256x256_S_d0_1 h_S_) main_v32 main_c_13
  let main_v34 : IVec S_ 1 := andi main_v29 main_v33
  let main_v35 : FVec F S256 .f32 := Host.absf main_arg11
  let main_cst_14 : FVec F S_ .f32 := constant S_ .f32 0x7F800000#32
  let main_v36 : FVec F S256 .f32 := broadcastInDim S256 ![] bcast_S_S256 main_cst_14
  let main_v37 : IVec S256 1 := cmpf .olt main_v35 main_v36
  let main_c_15 : IVec S_ 1 := constantI S_ 1 1#1
  let main_v38 : IVec S_ 1 := (fun x v => Host.reduce IntOp.andi x v reducesTo_S256_S_d0 h_S_) main_v37 main_c_15
  let main_v39 : IVec S_ 1 := andi main_v34 main_v38
  main_v39

def fn_part1 {F : FTy → Type} [FloatOps F] (main_arg6 : FVec F S256x256 .f32) (main_arg7 : FVec F S256 .f32) (main_arg10 : FVec F S256x256 .f32) (main_arg11 : FVec F S256 .f32) (main_v14 : IVec S_ 1) (main_v15 : FVec F S10000x256 .f32) : IVec S_ 1 :=
  let main_cst_6 : FVec F S_ .f32 := constant S_ .f32 0x7F800000#32
  let main_v16 : FVec F S10000x256 .f32 := broadcastInDim S10000x256 ![] bcast_S_S10000x256 main_cst_6
  let main_v17 : IVec S10000x256 1 := cmpf .olt main_v15 main_v16
  let main_c_7 : IVec S_ 1 := constantI S_ 1 1#1
  let main_v18 : IVec S_ 1 := (fun x v => Host.reduce IntOp.andi x v reducesTo_S10000x256_S_d0_1 h_S_) main_v17 main_c_7
  let main_v19 : IVec S_ 1 := andi main_v14 main_v18
  let main_v20 : FVec F S256x256 .f32 := Host.absf main_arg6
  let main_cst_8 : FVec F S_ .f32 := constant S_ .f32 0x7F800000#32
  let main_v21 : FVec F S256x256 .f32 := broadcastInDim S256x256 ![] bcast_S_S256x256 main_cst_8
  let main_v22 : IVec S256x256 1 := cmpf .olt main_v20 main_v21
  let main_c_9 : IVec S_ 1 := constantI S_ 1 1#1
  let main_v23 : IVec S_ 1 := (fun x v => Host.reduce IntOp.andi x v reducesTo_S256x256_S_d0_1 h_S_) main_v22 main_c_9
  let main_v24 : IVec S_ 1 := andi main_v19 main_v23
  let main_v25 : FVec F S256 .f32 := Host.absf main_arg7
  let main_cst_10 : FVec F S_ .f32 := constant S_ .f32 0x7F800000#32
  let main_v26 : FVec F S256 .f32 := broadcastInDim S256 ![] bcast_S_S256 main_cst_10
  let main_v27 : IVec S256 1 := cmpf .olt main_v25 main_v26
  let main_c_11 : IVec S_ 1 := constantI S_ 1 1#1
  let main_v28 : IVec S_ 1 := (fun x v => Host.reduce IntOp.andi x v reducesTo_S256_S_d0 h_S_) main_v27 main_c_11
  let main_v29 : IVec S_ 1 := andi main_v24 main_v28
  let main_v30 : FVec F S256x256 .f32 := Host.absf main_arg10
  let main_cst_12 : FVec F S_ .f32 := constant S_ .f32 0x7F800000#32
  let main_v31 : FVec F S256x256 .f32 := broadcastInDim S256x256 ![] bcast_S_S256x256 main_cst_12
  let main_v32 : IVec S256x256 1 := cmpf .olt main_v30 main_v31
  fn_part2 (F := F) main_arg11 main_v29 main_v32

def fn {F : FTy → Type} [FloatOps F] (main_arg0 : FVec F S10000x256 .f32) (main_arg1 : IVec S2x160000 32) (main_arg2 : FVec F S160000x16 .f32) (main_arg3 : FVec F S1x64 .f32) (main_arg4 : IVec S10000 32) (main_arg5 : IVec S160000 32) (main_arg6 : FVec F S256x256 .f32) (main_arg7 : FVec F S256 .f32) (main_arg8 : FVec F S256 .f32) (main_arg9 : FVec F S256 .f32) (main_arg10 : FVec F S256x256 .f32) (main_arg11 : FVec F S256 .f32) (main_arg12 : FVec F S256 .f32) (main_arg13 : FVec F S256 .f32) : IVec S_ 1 :=
  let main_cst : FVec F S_ .f32 := constant S_ .f32 0x3F800000#32
  let main_v0 : FVec F S256 .f32 := broadcastInDim S256 ![] bcast_S_S256 main_cst
  let main_v1 : IVec S256 1 := cmpf .oeq main_arg8 main_v0
  let main_c : IVec S_ 1 := constantI S_ 1 1#1
  let main_v2 : IVec S_ 1 := (fun x v => Host.reduce IntOp.andi x v reducesTo_S256_S_d0 h_S_) main_v1 main_c
  let main_cst_0 : FVec F S_ .f32 := constant S_ .f32 0x00000000#32
  let main_v3 : FVec F S256 .f32 := broadcastInDim S256 ![] bcast_S_S256 main_cst_0
  let main_v4 : IVec S256 1 := cmpf .oeq main_arg9 main_v3
  let main_c_1 : IVec S_ 1 := constantI S_ 1 1#1
  let main_v5 : IVec S_ 1 := (fun x v => Host.reduce IntOp.andi x v reducesTo_S256_S_d0 h_S_) main_v4 main_c_1
  let main_v6 : IVec S_ 1 := andi main_v2 main_v5
  let main_cst_2 : FVec F S_ .f32 := constant S_ .f32 0x3F800000#32
  let main_v7 : FVec F S256 .f32 := broadcastInDim S256 ![] bcast_S_S256 main_cst_2
  let main_v8 : IVec S256 1 := cmpf .oeq main_arg12 main_v7
  let main_c_3 : IVec S_ 1 := constantI S_ 1 1#1
  let main_v9 : IVec S_ 1 := (fun x v => Host.reduce IntOp.andi x v reducesTo_S256_S_d0 h_S_) main_v8 main_c_3
  let main_v10 : IVec S_ 1 := andi main_v6 main_v9
  let main_cst_4 : FVec F S_ .f32 := constant S_ .f32 0x00000000#32
  let main_v11 : FVec F S256 .f32 := broadcastInDim S256 ![] bcast_S_S256 main_cst_4
  let main_v12 : IVec S256 1 := cmpf .oeq main_arg13 main_v11
  let main_c_5 : IVec S_ 1 := constantI S_ 1 1#1
  let main_v13 : IVec S_ 1 := (fun x v => Host.reduce IntOp.andi x v reducesTo_S256_S_d0 h_S_) main_v12 main_c_5
  let main_v14 : IVec S_ 1 := andi main_v10 main_v13
  let main_v15 : FVec F S10000x256 .f32 := Host.absf main_arg0
  fn_part1 (F := F) main_arg6 main_arg7 main_arg10 main_arg11 main_v14 main_v15
-- ==== Kernel.lean ====
abbrev S10000x256 : Shape := ⟨2, ![10000, 256]⟩
abbrev S2x160000 : Shape := ⟨2, ![2, 160000]⟩
abbrev S160000x16 : Shape := ⟨2, ![160000, 16]⟩
abbrev S1x64 : Shape := ⟨2, ![1, 64]⟩
abbrev S10000 : Shape := ⟨1, ![10000]⟩
abbrev S160000 : Shape := ⟨1, ![160000]⟩
abbrev S256x256 : Shape := ⟨2, ![256, 256]⟩
abbrev S256 : Shape := ⟨1, ![256]⟩
abbrev S1x256 : Shape := ⟨2, ![1, 256]⟩
abbrev S2000x256 : Shape := ⟨2, ![2000, 256]⟩
abbrev S2000 : Shape := ⟨1, ![2000]⟩
abbrev S2000x1 : Shape := ⟨2, ![2000, 1]⟩

abbrev nBuf : Space → Nat
  | .hbm => 17
  | .vmem => 8
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S160000x16, .f32⟩
  | .hbm, ⟨3, _⟩ => ⟨S1x64, .f32⟩
  | .hbm, ⟨4, _⟩ => ⟨S10000, .i32⟩
  | .hbm, ⟨5, _⟩ => ⟨S160000, .i32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S1x256, .f32⟩
  | .hbm, ⟨15, _⟩ => ⟨S1x256, .f32⟩
  | .hbm, ⟨16, _⟩ => ⟨S10000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S10000x256 : Shape := ⟨2, ![10000, 256]⟩
abbrev S2x160000 : Shape := ⟨2, ![2, 160000]⟩
abbrev S160000x16 : Shape := ⟨2, ![160000, 16]⟩
abbrev S1x64 : Shape := ⟨2, ![1, 64]⟩
abbrev S10000 : Shape := ⟨1, ![10000]⟩
abbrev S160000 : Shape := ⟨1, ![160000]⟩
abbrev S256x256 : Shape := ⟨2, ![256, 256]⟩
abbrev S256 : Shape := ⟨1, ![256]⟩
abbrev S1x256 : Shape := ⟨2, ![1, 256]⟩
abbrev S_ : Shape := ⟨0, ![]⟩
abbrev S10000x1 : Shape := ⟨2, ![10000, 1]⟩

abbrev nBuf : Space → Nat
  | .hbm => 116
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S160000x16, .f32⟩
  | .hbm, ⟨3, _⟩ => ⟨S1x64, .f32⟩
  | .hbm, ⟨4, _⟩ => ⟨S10000, .i32⟩
  | .hbm, ⟨5, _⟩ => ⟨S160000, .i32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S10000x256, .f32⟩
  | .hbm, ⟨15, _⟩ => ⟨S1x256, .f32⟩
  | .hbm, ⟨16, _⟩ => ⟨S10000x256, .f32⟩
  | .hbm, ⟨17, _⟩ => ⟨S10000x256, .f32⟩
  | .hbm, ⟨18, _⟩ => ⟨S_, .f32⟩
  | .hbm, ⟨19, _⟩ => ⟨S10000x256, .f32⟩
  | .hbm, ⟨20, _⟩ => ⟨S10000x256, .f32⟩
  | .hbm, ⟨21, _⟩ => ⟨S_, .f32⟩
  | .hbm, ⟨22, _⟩ => ⟨S10000, .f32⟩
  | .hbm, ⟨23, _⟩ => ⟨S10000x1, .f32⟩
  | .hbm, ⟨24, _⟩ => ⟨S_, .f32⟩
  | .hbm, ⟨25, _⟩ => ⟨S10000x1, .f32⟩
  | .hbm, ⟨26, _⟩ => ⟨S10000x1, .f32⟩
  | .hbm, ⟨27, _⟩ => ⟨S_, .i32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S_, .f32⟩
  | .hbm, ⟨32, _⟩ => ⟨S10000x1, .f32⟩
  | .hbm, ⟨33, _⟩ => ⟨S10000x1, .f32⟩
  | .hbm, ⟨34, _⟩ => ⟨S10000x256, .f32⟩
  | .hbm, ⟨35, _⟩ => ⟨S10000x256, .f32⟩
  | .hbm, ⟨36, _⟩ => ⟨S10000x256, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S10000, .f32⟩
  | .hbm, ⟨42, _⟩ => ⟨S10000x1, .f32⟩
  | .hbm, ⟨43, _⟩ => ⟨S10000x1, .f32⟩
  | .hbm, ⟨44, _⟩ => ⟨S10000x1, .f32⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S10000x1, .f32⟩
  | .hbm, ⟨50, _⟩ => ⟨S10000x1, .f32⟩
  | .hbm, ⟨51, _⟩ => ⟨S10000x256, .f32⟩
  | .hbm, ⟨52, _⟩ => ⟨S10000x256, .f32⟩
  | .hbm, ⟨53, _⟩ => ⟨S_, .f32⟩
  | .hbm, ⟨54, _⟩ => ⟨S10000x1, .f32⟩
  | .hbm, ⟨55, _⟩ => ⟨S10000x1, .f32⟩
  | .hbm, ⟨56, _⟩ => ⟨S10000x1, .f32⟩
  | .hbm, ⟨57, _⟩ => ⟨S10000x256, .f32⟩
  | .hbm, ⟨58, _⟩ => ⟨S10000x256, .f32⟩
  | .hbm, ⟨59, _⟩ => ⟨S1x256, .f32⟩
  | .hbm, ⟨60, _⟩ => ⟨S10000x256, .f32⟩
  | .hbm, ⟨61, _⟩ => ⟨S10000x256, .f32⟩
  | .hbm, ⟨62, _⟩ => ⟨S1x256, .f32⟩
  | .hbm, ⟨63, _⟩ => ⟨S10000x256, .f32⟩
  | .hbm, ⟨64, _⟩ => ⟨S10000x256, .f32⟩
  | .hbm, ⟨65, _⟩ => ⟨S10000x256, .f32⟩
  | .hbm, ⟨66, _⟩ => ⟨S1x256, .f32⟩
  | .hbm, ⟨67, _⟩ => ⟨S10000x256, .f32⟩
  | .hbm, ⟨68, _⟩ => ⟨S10000x256, .f32⟩
  | .hbm, ⟨69, _⟩ => ⟨S_, .f32⟩
  | .hbm, ⟨70, _⟩ => ⟨S10000x256, .f32⟩
  | .hbm, ⟨71, _⟩ => ⟨S10000x256, .f32⟩
  | .hbm, ⟨72, _⟩ => ⟨S_, .f32⟩
  | .hbm, ⟨73, _⟩ => ⟨S10000, .f32⟩
  | .hbm, ⟨74, _⟩ => ⟨S10000x1, .f32⟩
  | .hbm, ⟨75, _⟩ => ⟨S_, .f32⟩
  | .hbm, ⟨76, _⟩ => ⟨S10000x1, .f32⟩
  | .hbm, ⟨77, _⟩ => ⟨S10000x1, .f32⟩
  | .hbm, ⟨78, _⟩ => ⟨S_, .i32⟩
  | .hbm, ⟨79, _⟩ => ⟨S_, .f32⟩
  | .hbm, ⟨80, _⟩ => ⟨S10000, .f32⟩
  | .hbm, ⟨81, _⟩ => ⟨S10000x1, .f32⟩
  | .hbm, ⟨82, _⟩ => ⟨S_, .f32⟩
  | .hbm, ⟨83, _⟩ => ⟨S10000x1, .f32⟩
  | .hbm, ⟨84, _⟩ => ⟨S10000x1, .f32⟩
  | .hbm, ⟨85, _⟩ => ⟨S10000x256, .f32⟩
  | .hbm, ⟨86, _⟩ => ⟨S10000x256, .f32⟩
  | .hbm, ⟨87, _⟩ => ⟨S10000x256, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S10000, .f32⟩
  | .hbm, ⟨93, _⟩ => ⟨S10000x1, .f32⟩
  | .hbm, ⟨94, _⟩ => ⟨S10000x1, .f32⟩
  | .hbm, ⟨95, _⟩ => ⟨S10000x1, .f32⟩
  | .hbm, ⟨96, _⟩ => ⟨S_, .f32⟩
  | .hbm, ⟨97, _⟩ => ⟨S_, .i1⟩
  | .hbm, ⟨98, _⟩ => ⟨S_, .f32⟩
  | .hbm, ⟨99, _⟩ => ⟨S_, .f32⟩
  | .hbm, ⟨100, _⟩ => ⟨S10000x1, .f32⟩
  | .hbm, ⟨101, _⟩ => ⟨S10000x1, .f32⟩
  | .hbm, ⟨102, _⟩ => ⟨S10000x256, .f32⟩
  | .hbm, ⟨103, _⟩ => ⟨S10000x256, .f32⟩
  | .hbm, ⟨104, _⟩ => ⟨S_, .f32⟩
  | .hbm, ⟨105, _⟩ => ⟨S10000x1, .f32⟩
  | .hbm, ⟨106, _⟩ => ⟨S10000x1, .f32⟩
  | .hbm, ⟨107, _⟩ => ⟨S10000x1, .f32⟩
  | .hbm, ⟨108, _⟩ => ⟨S10000x256, .f32⟩
  | .hbm, ⟨109, _⟩ => ⟨S10000x256, .f32⟩
  | .hbm, ⟨110, _⟩ => ⟨S1x256, .f32⟩
  | .hbm, ⟨111, _⟩ => ⟨S10000x256, .f32⟩
  | .hbm, ⟨112, _⟩ => ⟨S10000x256, .f32⟩
  | .hbm, ⟨113, _⟩ => ⟨S1x256, .f32⟩
  | .hbm, ⟨114, _⟩ => ⟨S10000x256, .f32⟩
  | .hbm, ⟨115, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_cst_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_cst_1 : Ref sig .tc := ⟨.hbm, 38, rfl⟩
abbrev main_call1_v8 : Ref sig .tc := ⟨.hbm, 39, rfl⟩
abbrev main_call1_cst_2 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_cst_3 : Ref sig .tc := ⟨.hbm, 45, rfl⟩
abbrev main_call1_v13 : Ref sig .tc := ⟨.hbm, 46, rfl⟩
abbrev main_call1_cst_4 : Ref sig .tc := ⟨.hbm, 47, rfl⟩
abbrev main_call1_call0_v0 : Ref sig .tc := ⟨.hbm, 48, rfl⟩
abbrev main_call1_call0_v1 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_cst_1 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_call2_cst : Ref sig .tc := ⟨.hbm, 69, rfl⟩
abbrev main_call2_v0 : Ref sig .tc := ⟨.hbm, 70, rfl⟩
abbrev main_v27 : Ref sig .tc := ⟨.hbm, 71, rfl⟩
abbrev main_cst_2 : Ref sig .tc := ⟨.hbm, 72, rfl⟩
abbrev main_v28 : Ref sig .tc := ⟨.hbm, 73, rfl⟩
abbrev main_v29 : Ref sig .tc := ⟨.hbm, 74, rfl⟩
abbrev main_cst_3 : Ref sig .tc := ⟨.hbm, 75, rfl⟩
abbrev main_v30 : Ref sig .tc := ⟨.hbm, 76, rfl⟩
abbrev main_v31 : Ref sig .tc := ⟨.hbm, 77, rfl⟩
abbrev main_c_4 : Ref sig .tc := ⟨.hbm, 78, rfl⟩
abbrev main_call3_cst : Ref sig .tc := ⟨.hbm, 79, rfl⟩
abbrev main_call3_v0 : Ref sig .tc := ⟨.hbm, 80, rfl⟩
abbrev main_call3_v1 : Ref sig .tc := ⟨.hbm, 81, rfl⟩
abbrev main_call3_cst_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_v6 : Ref sig .tc := ⟨.hbm, 87, rfl⟩
abbrev main_call3_v7 : Ref sig .tc := ⟨.hbm, 88, rfl⟩
abbrev main_call3_cst_1 : Ref sig .tc := ⟨.hbm, 89, rfl⟩
abbrev main_call3_v8 : Ref sig .tc := ⟨.hbm, 90, rfl⟩
abbrev main_call3_cst_2 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_cst_3 : Ref sig .tc := ⟨.hbm, 96, rfl⟩
abbrev main_call3_v13 : Ref sig .tc := ⟨.hbm, 97, rfl⟩
abbrev main_call3_cst_4 : Ref sig .tc := ⟨.hbm, 98, rfl⟩
abbrev main_call3_call0_v0 : Ref sig .tc := ⟨.hbm, 99, rfl⟩
abbrev main_call3_call0_v1 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_cst_5 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩

abbrev nD : Nat := 1
abbrev τ : Topo := Topo.v7x

variable {F : FTy → Type} [FloatOps F]
-- ==== Proof.Literals.lean ====
/- The float constants of the two programs, as the extended reals their bit patterns denote. -/
module

public import Idealize.ShloMosaic.PureOps.Ideal

@[expose] public section

noncomputable section

namespace Cert.Literals

open Idealize.ShloMosaic

/-- The width of a row, as both programs write it: the constant they divide a row's sum by. -/
def width : EReal := Ideal.ofBits .f32 0x43800000#32

/-- The stabiliser both programs add to a variance. -/
def eps : EReal := Ideal.ofBits .f32 0x3727C5AC#32

/-- The width constant is the real number 256. -/
theorem width_eq : width = ((256 : ℝ) : EReal) := by
  unfold width
  simp [Ideal.ofBits, Ideal.ieee, -EReal.coe_mul]; norm_num

/-- The stabiliser is a positive real number. -/
theorem eps_pos : ∃ e : ℝ, 0 < e ∧ eps = (e : EReal) := by
  refine ⟨10995116 / 2 ^ 40, by norm_num, ?_⟩
  unfold eps
  simp [Ideal.ofBits, Ideal.ieee, -EReal.coe_mul]; norm_num

/-- The pattern the precondition compares absolute values with is `+∞`. -/
theorem infinity_eq : Ideal.ofBits .f32 0x7F800000#32 = ⊤ := by
  simp [Ideal.ofBits, Ideal.ieee]

/-- The unit pattern is the number one. -/
theorem one_eq : Ideal.ofBits .f32 0x3F800000#32 = 1 := by
  rw [show (1 : EReal) = ((1 : ℝ) : EReal) by norm_cast]
  simp [Ideal.ofBits, Ideal.ieee, -EReal.coe_mul]; norm_num

/-- The zero pattern is the number zero. -/
theorem zero_eq : Ideal.ofBits .f32 0x00000000#32 = 0 := by
  simp [Ideal.ofBits, Ideal.ieee]

end Cert.Literals

end
-- ==== Proof.Rows.lean ====
/- One row of the network, as plain mathematics on extended reals: the dense layer with its relu, the layer norm the
   reference writes (centred variance, a division by the standard deviation, gain and shift), the layer norm the kernel
   writes (variance as mean of squares less squared mean, a multiplication by the reciprocal root), and the proof that
   the two norms agree on every row of real numbers. -/
module

public import Idealize.ShloMosaic.PureOps.Ideal
public import proofs.«01_k».proof.Proof.Literals

@[expose] public section

noncomputable section

namespace Cert.Rows

open Idealize.ShloMosaic Cert.Literals

/-- A row of 256 extended reals. -/
abbrev Row := Fin 256 → EReal

/-- A 256 by 256 matrix of extended reals. -/
abbrev Mat := Fin 256 → Fin 256 → EReal

/-- The dense layer of a row with its relu: `max (x W + b) 0`. -/
def dense (x : Row) (W : Mat) (b : Row) : Row := fun j => max ((∑ k, x k * W k j) + b j) 0

/-- The mean of a row. -/
def mean (r : Row) : EReal := Ideal.div (∑ k, r k) width

/-- The variance of a row as the reference takes it: the mean of the squared distances from the mean. -/
def centredVar (r : Row) : EReal := Ideal.div (∑ k, (r k - mean r) * (r k - mean r)) width

/-- The variance of a row as the kernel takes it: the mean of the squares less the square of the mean. -/
def momentVar (r : Row) : EReal := Ideal.div (∑ k, r k * r k) width - mean r * mean r

/-- The reference's layer norm of a row, with its gain `g` and its shift `b`. -/
def norm (r g b : Row) : Row := fun j => Ideal.div (r j - mean r) (Ideal.sqrt (centredVar r + eps)) * g j + b j

/-- The kernel's layer norm of a row, which has no gain and no shift. -/
def plainNorm (r : Row) : Row := fun j => (r j - mean r) * Ideal.rsqrt (momentVar r + eps)

/-- The reference's two blocks on a row. -/
def refRow (x : Row) (W₁ : Mat) (b₁ g₁ s₁ : Row) (W₂ : Mat) (b₂ g₂ s₂ : Row) : Row :=
  norm (dense (norm (dense x W₁ b₁) g₁ s₁) W₂ b₂) g₂ s₂

/-- The kernel's two blocks on a row. -/
def kerRow (x : Row) (W₁ : Mat) (b₁ : Row) (W₂ : Mat) (b₂ : Row) : Row :=
  plainNorm (dense (plainNorm (dense x W₁ b₁)) W₂ b₂)

/-- An extended real that is a real number. -/
def Finite (x : EReal) : Prop := ∃ r : ℝ, x = (r : EReal)

/-- An extended real whose absolute value is below `+∞` is a real number. -/
theorem finite_of_abs_lt (x : EReal) (h : max x (-x) < ⊤) : Finite x := by
  induction x with
  | bot => simp at h
  | coe r => exact ⟨r, rfl⟩
  | top => simp at h

/-- A family of finite extended reals is a family of real numbers. -/
theorem exists_real {ι : Type} {f : ι → EReal} (h : ∀ i, Finite (f i)) : ∃ r : ι → ℝ, f = fun i => (r i : EReal) :=
  ⟨fun i => (h i).choose, funext fun i => (h i).choose_spec⟩

/-- A sum of real numbers, read as extended reals, is the sum of the readings. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Dividing a real number by the width is multiplying it by 1/256. -/
theorem div_width (a : ℝ) : Ideal.div (a : EReal) width = ((a / 256 : ℝ) : EReal) := by
  rw [width_eq, Ideal.div_coe (by norm_num), ← EReal.coe_mul]
  congr 1; ring

/-- The dense layer of finite data is finite. -/
theorem dense_finite {x : Row} {W : Mat} {b : Row} (hx : ∀ k, Finite (x k)) (hW : ∀ k j, Finite (W k j))
    (hb : ∀ j, Finite (b j)) (j : Fin 256) : Finite (dense x W b j) := by
  obtain ⟨x, rfl⟩ := exists_real hx
  obtain ⟨w, hw⟩ := exists_real fun k => hW k j
  obtain ⟨b, rfl⟩ := exists_real hb
  refine ⟨max ((∑ k, x k * w k) + b j) 0, ?_⟩
  have hs : ∀ k, W k j = (w k : EReal) := fun k => congrFun hw k
  simp only [dense, hs, ← EReal.coe_mul, ← coe_sum, ← EReal.coe_add]
  exact (EReal.coe_strictMono.monotone.map_max (a := (∑ k, x k * w k) + b j) (b := (0 : ℝ))).symm

/-- The mean of a row of real numbers is the real mean. -/
theorem mean_coe (r : Fin 256 → ℝ) : mean (fun k => (r k : EReal)) = (((∑ k, r k) / 256 : ℝ) : EReal) := by
  rw [mean, ← coe_sum, div_width]

/-- The centred variance of a row of real numbers is the real one. -/
theorem centredVar_coe (r : Fin 256 → ℝ) : centredVar (fun k => (r k : EReal))
    = (((∑ k, (r k - (∑ k, r k) / 256) * (r k - (∑ k, r k) / 256)) / 256 : ℝ) : EReal) := by
  simp only [centredVar, mean_coe, ← EReal.coe_sub, ← EReal.coe_mul, ← coe_sum, div_width]

/-- The two variances are one: over real numbers the mean of the squares less the square of the mean is the mean of the
    squared distances from the mean. -/
theorem momentVar_eq (r : Fin 256 → ℝ) : momentVar (fun k => (r k : EReal)) = centredVar (fun k => (r k : EReal)) := by
  rw [centredVar_coe]
  simp only [momentVar, mean_coe, ← EReal.coe_mul, ← coe_sum, div_width, ← EReal.coe_sub]
  congr 1
  set S := ∑ k, r k with hS
  have h : ∀ k, (r k - S / 256) * (r k - S / 256) = r k * r k - 2 * (S / 256) * r k + S / 256 * (S / 256) := fun k => by ring
  simp only [h, Finset.sum_add_distrib, Finset.sum_sub_distrib, ← Finset.mul_sum, ← hS, Finset.sum_const, Finset.card_univ,
    Fintype.card_fin, nsmul_eq_mul]
  push_cast
  ring

/-- On a row of real numbers the stabilised variance is a positive real number. -/
theorem stabilised_pos (r : Fin 256 → ℝ) : ∃ y : ℝ, 0 < y ∧ centredVar (fun k => (r k : EReal)) + eps = (y : EReal) := by
  obtain ⟨e, he, heps⟩ := eps_pos
  rw [centredVar_coe, heps, ← EReal.coe_add]
  refine ⟨_, ?_, rfl⟩
  have : 0 ≤ ∑ k, (r k - (∑ k, r k) / 256) * (r k - (∑ k, r k) / 256) := Finset.sum_nonneg fun k _ => mul_self_nonneg _
  positivity

/-- Dividing by the root of a positive real number is multiplying by its reciprocal root. -/
theorem div_sqrt {y : ℝ} (hy : 0 < y) (a : EReal) : Ideal.div a (Ideal.sqrt (y : EReal)) = a * Ideal.rsqrt (y : EReal) := by
  have h : ¬ y < 0 := not_lt.2 hy.le
  have hs : Real.sqrt y ≠ 0 := (Real.sqrt_pos.2 hy).ne'
  rw [Ideal.sqrt_coe, Ideal.rsqrt_coe, if_neg h, if_neg h, if_neg hy.ne', Ideal.div_coe hs, one_div]

/-- The kernel's layer norm of a row of real numbers is the reference's with gain one and shift zero. -/
theorem plainNorm_eq {r : Row} (hr : ∀ k, Finite (r k)) {g s : Row} (hg : ∀ j, g j = 1) (hs : ∀ j, s j = 0) :
    plainNorm r = norm r g s := by
  obtain ⟨r, rfl⟩ := exists_real hr
  obtain ⟨y, hy, e⟩ := stabilised_pos r
  funext j
  rw [plainNorm, norm, momentVar_eq, e, div_sqrt hy, hg, hs, mul_one, add_zero]

/-- The kernel's layer norm of a row of real numbers is a row of real numbers. -/
theorem plainNorm_finite {r : Row} (hr : ∀ k, Finite (r k)) (j : Fin 256) : Finite (plainNorm r j) := by
  obtain ⟨r, rfl⟩ := exists_real hr
  obtain ⟨y, hy, e⟩ := stabilised_pos r
  refine ⟨(r j - (∑ k, r k) / 256) * (Real.sqrt y)⁻¹, ?_⟩
  rw [plainNorm, momentVar_eq, e, mean_coe, Ideal.rsqrt_coe, if_neg (not_lt.2 hy.le), if_neg hy.ne', EReal.coe_mul, EReal.coe_sub]

/-- **The two networks agree on a row**: on finite data, with both gains one and both shifts zero, the kernel's two
    blocks give the reference's row. -/
theorem kerRow_eq_refRow {x : Row} {W₁ : Mat} {b₁ g₁ s₁ : Row} {W₂ : Mat} {b₂ g₂ s₂ : Row}
    (hx : ∀ k, Finite (x k)) (hW₁ : ∀ k j, Finite (W₁ k j)) (hb₁ : ∀ j, Finite (b₁ j))
    (hW₂ : ∀ k j, Finite (W₂ k j)) (hb₂ : ∀ j, Finite (b₂ j))
    (hg₁ : ∀ j, g₁ j = 1) (hs₁ : ∀ j, s₁ j = 0) (hg₂ : ∀ j, g₂ j = 1) (hs₂ : ∀ j, s₂ j = 0) :
    kerRow x W₁ b₁ W₂ b₂ = refRow x W₁ b₁ g₁ s₁ W₂ b₂ g₂ s₂ := by
  have h₁ := dense_finite hx hW₁ hb₁
  have h₂ := dense_finite (plainNorm_finite h₁) hW₂ hb₂
  rw [kerRow, refRow, plainNorm_eq h₂ hg₂ hs₂, plainNorm_eq h₁ hg₁ hs₁]

end Cert.Rows

end
-- ==== Proof.Block.lean ====
/- What the kernel's body stores for a block of rows, read at an index, and the kernel's result array after the run: row
   `i` of it is the kernel's two blocks of row `i` of `v`. -/
module

public import proofs.«01_k».proof.Proof.Gen.KernelIdeal.Value
public import proofs.«01_k».proof.Proof.Rows
public import Idealize.ShloMosaic.Lib.Pipeline.ValueKit
public import Idealize.ShloMosaic.Lib.Pipeline.ValueKit.Point

@[expose] public section

set_option maxRecDepth 16384

noncomputable section

namespace Cert.KernelIdeal.Value

open Cert.KernelIdeal Cert.KernelIdeal.Gen Cert.Literals Idealize.ShloMosaic Idealize.ShloMosaic.TcCoe Idealize.SL.Sem
open Idealize.ShloMosaic.Pipeline (Dat)

/-- The kernel's dense layer with its relu, over a block of rows. -/
def denseB (x : FVec Ideal S2000x256 .f32) (W : FVec Ideal S256x256 .f32) (b : FVec Ideal S1x256 .f32) : FVec Ideal S2000x256 .f32 :=
  maximumf (addf (matmul dot_S2000x256_S256x256_S2000x256_1_0_0_1_n_n none x W (constant S2000x256 .f32 0x00000000#32))
      (broadcastTo S2000x256 (shapeCast S1x256 b shapeCasts_S1x256_S1x256) broadcasts_S1x256_S2000x256))
    (broadcast S2000x256 (Scalar.ofBits .f32 0x00000000#32))

/-- A column of row sums over the width. -/
def meanB (r : FVec Ideal S2000x256 .f32) : FVec Ideal S2000x1 .f32 :=
  divf (shapeCast S2000x1 (multiReduction .add [1] S2000 r 0x00000000#32 reduces_S2000x256_S2000 (.inl rfl) rfl) shapeCasts_S2000_S2000x1)
    (broadcast S2000x1 (Scalar.ofBits .f32 0x43800000#32))

/-- The kernel's layer norm, over a block of rows. -/
def normB (r : FVec Ideal S2000x256 .f32) : FVec Ideal S2000x256 .f32 :=
  mulf (subf r (broadcastTo S2000x256 (meanB r) broadcasts_S2000x1_S2000x256))
    (broadcastTo S2000x256 (rsqrt (addf (subf (meanB (mulf r r)) (mulf (meanB r) (meanB r)))
      (broadcast S2000x1 (Scalar.ofBits .f32 0x3727C5AC#32)))) broadcasts_S2000x1_S2000x256)

/-- The dense layer at an index: the dense layer of the row. -/
theorem denseB_apply (x : FVec Ideal S2000x256 .f32) (W : FVec Ideal S256x256 .f32) (b : FVec Ideal S1x256 .f32)
    (i : Fin 2000) (j : Fin 256) :
    denseB x W b (ix2 i j) = Rows.dense (fun k => x (ix2 i k)) (fun k l => W (ix2 k l)) (fun l => b (ix2 0 l)) j := by
  pointwise [denseB]
  rfl

/-- The column of means at an index. -/
theorem meanB_apply (r : FVec Ideal S2000x256 .f32) (i : Fin 2000) (u : Fin 1) :
    meanB r (ix2 i u) = Ideal.div (∑ k, r (ix2 i k)) width := by
  pointwise [meanB]
  rfl

/-- The layer norm at an index: the kernel's layer norm of the row. -/
theorem normB_apply (r : FVec Ideal S2000x256 .f32) (i : Fin 2000) (j : Fin 256) :
    normB r (ix2 i j) = Rows.plainNorm (fun k => r (ix2 i k)) j := by
  pointwise [normB]
  simp only [meanB_apply]
  pointwise []
  rfl

/-- What the body stores is the two blocks one after the other. -/
theorem stored_eq (x : FVec Ideal S2000x256 .f32) (W₁ W₂ : FVec Ideal S256x256 .f32) (b₁ b₂ : FVec Ideal S1x256 .f32) :
    k0_pay1 (k0_pay2 x W₁ W₂ b₁ b₂) (k0_pay3 x W₁ W₂ b₁ b₂) (k0_pay4 (F := Ideal))
      = normB (denseB (normB (denseB x W₁ b₁)) W₂ b₂) := rfl

/-- What the body stores, at an index: the kernel's two blocks of the row. -/
theorem stored_apply (x : FVec Ideal S2000x256 .f32) (W₁ W₂ : FVec Ideal S256x256 .f32) (b₁ b₂ : FVec Ideal S1x256 .f32)
    (i : Fin 2000) (j : Fin 256) :
    k0_pay1 (k0_pay2 x W₁ W₂ b₁ b₂) (k0_pay3 x W₁ W₂ b₁ b₂) (k0_pay4 (F := Ideal)) (ix2 i j)
      = Rows.kerRow (fun k => x (ix2 i k)) (fun k l => W₁ (ix2 k l)) (fun l => b₁ (ix2 0 l))
          (fun k l => W₂ (ix2 k l)) (fun l => b₂ (ix2 0 l)) j := by
  rw [stored_eq, normB_apply]
  simp only [denseB_apply, normB_apply]
  rfl

variable (m : (ℓ : Loc nD τ sig) → Buf (Elt Ideal) ℓ) (c : Dev nD)

/-- Where the blocks sit: the rows' block and the result's block move down with the grid point, the weights and the
    biases stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The kernel's result array, row by row, over the argument arrays. -/
def result (v : FVec Ideal S10000x256 .f32) (W₁ : FVec Ideal S256x256 .f32) (b₁ : FVec Ideal S256 .f32)
    (W₂ : FVec Ideal S256x256 .f32) (b₂ : FVec Ideal S256 .f32) : FVec Ideal S10000x256 .f32 :=
  fun i => Rows.kerRow (fun k => v (ix2 (i 0) k)) (fun k l => W₁ (ix2 k l)) (fun l => b₁ (ix1 l))
    (fun k l => W₂ (ix2 k l)) (fun l => b₂ (ix1 l)) (i 1)

/-- What the body stores at index `y` of the block at grid point `t` is the result array's element where `y` sits. -/
theorem point (t : Fin cfg0.N) (y : S2000x256.Idx) :
    k0_pay1 (k0_pay2 (iblk m c 0 t) (iblk m c 1 t) (iblk m c 3 t) (iblk m c 2 t) (iblk m c 4 t))
      (k0_pay3 (iblk m c 0 t) (iblk m c 1 t) (iblk m c 3 t) (iblk m c 2 t) (iblk m c 4 t)) (k0_pay4 (F := Ideal)) y
    = result (m ((c : Thread nD τ).loc main_arg0)) (m ((c : Thread nD τ).loc main_arg6)) (m ((c : Thread nD τ).loc main_arg7))
        (m ((c : Thread nD τ).loc main_arg10)) (m ((c : Thread nD τ).loc main_arg11)) (((cfg0.win 5).blk t).view.emb y) := by
  idx_vars y
  refine (stored_apply _ _ _ _ _ y0 y1).trans ?_
  have e0 : ∀ k : Fin 256, (iblk m c 0 t : FVec Ideal S2000x256 .f32) (ix2 y0 k)
      = (m ((c : Thread nD τ).loc main_arg0) : FVec Ideal S10000x256 .f32) (ix2 (((cfg0.win 5).blk t).view.emb (ix2 y0 y1) 0) k) := by
    intro k
    blk_ext! [iblk, V, idx t]
  have e1 : ∀ k l : Fin 256, (iblk m c 1 t : FVec Ideal S256x256 .f32) (ix2 k l)
      = (m ((c : Thread nD τ).loc main_arg6) : FVec Ideal S256x256 .f32) (ix2 k l) := by
    intro k l
    blk_ext! [iblk, V, idx t]
  have e2 : ∀ l : Fin 256, (iblk m c 2 t : FVec Ideal S1x256 .f32) (ix2 0 l)
      = (m ((c : Thread nD τ).loc main_arg7) : FVec Ideal S256 .f32) (ix1 l) := by
    intro l
    blk_ext! [iblk, V, idx t]
  have e3 : ∀ k l : Fin 256, (iblk m c 3 t : FVec Ideal S256x256 .f32) (ix2 k l)
      = (m ((c : Thread nD τ).loc main_arg10) : FVec Ideal S256x256 .f32) (ix2 k l) := by
    intro k l
    blk_ext! [iblk, V, idx t]
  have e4 : ∀ l : Fin 256, (iblk m c 4 t : FVec Ideal S1x256 .f32) (ix2 0 l)
      = (m ((c : Thread nD τ).loc main_arg11) : FVec Ideal S256 .f32) (ix1 l) := by
    intro l
    blk_ext! [iblk, V, idx t]
  have e5 : (((cfg0.win 5).blk t).view.emb (ix2 y0 y1) 1 : Fin 256) = y1 := by
    apply Fin.ext
    blk_simp [idx t]
  have h0 := funext e0
  have h1 := funext fun k => funext (e1 k)
  have h2 := funext e2
  have h3 := funext fun k => funext (e3 k)
  have h4 := funext e4
  refine (congr (congr (congr (congr (congr (congrArg Rows.kerRow h0) h1) h2) h3) h4) e5.symm).trans rfl

/-- **The kernel's result array after the run.** -/
theorem final : (dats m 0 c).arrAt 5 cfg0.N
    = result (m ((c : Thread nD τ).loc main_arg0)) (m ((c : Thread nD τ).loc main_arg6)) (m ((c : Thread nD τ).loc main_arg7))
        (m ((c : Thread nD τ).loc main_arg10)) (m ((c : Thread nD τ).loc main_arg11)) := by
  refine (dats m 0 c).arrAt_eq_of_covers 5 _ (by decide +kernel) fun t _ y => ?_
  blk_simp
  rw [after0_5]; frame_out
  exact point m c t y

end Cert.KernelIdeal.Value

end
-- ==== Proof.Reference.lean ====
/- What the reference leaves, read at an index: row `i` of its result is the reference's two blocks of row `i` of `v`. -/
module

public import proofs.«01_k».proof.Proof.Gen.ReferenceIdeal.Run
public import proofs.«01_k».proof.Proof.Rows
public import Idealize.ShloMosaic.Lib.Pointwise
public import Idealize.ShloMosaic.Lib.Tactic.CleanTypes

@[expose] public section

set_option maxRecDepth 16384

noncomputable section

namespace Cert.ReferenceIdeal.Value

open Cert.ReferenceIdeal Cert.ReferenceIdeal.Gen Cert.Literals Idealize.ShloMosaic Idealize.ShloMosaic.TcCoe Idealize.SL.Sem

/-- The reference's dense layer with its relu, as it prints over whole arrays. -/
def denseV (x : FVec Ideal S10000x256 .f32) (W : FVec Ideal S256x256 .f32) (b : FVec Ideal S256 .f32) : FVec Ideal S10000x256 .f32 :=
  maximumf (addf (Host.dotGeneral dot_S10000x256_S256x256_S10000x256_1_0_0_1_n_n none x W)
      (broadcastInDim S10000x256 ![0, 1] bcast_S1x256_S10000x256_0_1 (broadcastInDim S1x256 ![1] bcast_S256_S1x256_1 b)))
    (broadcastInDim S10000x256 ![] bcast_S_S10000x256 (constant S_ .f32 0x00000000#32))

/-- The row means, as a column. -/
def meanV (r : FVec Ideal S10000x256 .f32) : FVec Ideal S10000x1 .f32 :=
  Host.divf (broadcastInDim S10000x1 ![0] bcast_S10000_S10000x1_0
      (Host.reduceAdd r (constant S_ .f32 0x00000000#32) reducesTo_S10000x256_S10000_d1 h_S_))
    (broadcastInDim S10000x1 ![] bcast_S_S10000x1 (constant S_ .f32 0x43800000#32))

/-- The distances from the row means. -/
def distV (r : FVec Ideal S10000x256 .f32) : FVec Ideal S10000x256 .f32 :=
  subf r (broadcastInDim S10000x256 ![0, 1] bcast_S10000x1_S10000x256_0_1 (meanV r))

/-- The row variances, as a column: the reference divides by 256 less a correction of zero, and keeps the quotient where
    that divisor is positive. -/
def varV (r : FVec Ideal S10000x256 .f32) : FVec Ideal S10000x1 .f32 :=
  select (broadcastInDim S10000x1 ![] bcast_S_S10000x1
      (cmpf .ogt (subf (constant S_ .f32 0x43800000#32) (sitofp .f32 (constantI S_ 32 0#32)) : FVec Ideal S_ .f32)
        (constant S_ .f32 0x00000000#32)))
    (Host.divf (broadcastInDim S10000x1 ![0] bcast_S10000_S10000x1_0
        (Host.reduceAdd (mulf (distV r) (distV r)) (constant S_ .f32 0x00000000#32) reducesTo_S10000x256_S10000_d1 h_S_))
      (broadcastInDim S10000x1 ![] bcast_S_S10000x1 (subf (constant S_ .f32 0x43800000#32) (sitofp .f32 (constantI S_ 32 0#32)))))
    (broadcastInDim S10000x1 ![] bcast_S_S10000x1 (id (constant S_ .f32 0x7FC00000#32)))

/-- The reference's layer norm, as it prints over whole arrays. -/
def normV (r : FVec Ideal S10000x256 .f32) (g b : FVec Ideal S256 .f32) : FVec Ideal S10000x256 .f32 :=
  addf (mulf (Host.divf (distV r) (broadcastInDim S10000x256 ![0, 1] bcast_S10000x1_S10000x256_0_1
        (Host.sqrt (addf (varV r) (broadcastInDim S10000x1 ![] bcast_S_S10000x1 (constant S_ .f32 0x3727C5AC#32))))))
      (broadcastInDim S10000x256 ![0, 1] bcast_S1x256_S10000x256_0_1 (broadcastInDim S1x256 ![1] bcast_S256_S1x256_1 g)))
    (broadcastInDim S10000x256 ![0, 1] bcast_S1x256_S10000x256_0_1 (broadcastInDim S1x256 ![1] bcast_S256_S1x256_1 b))

/-- The dense layer at an index: the dense layer of the row. -/
theorem denseV_apply (x : FVec Ideal S10000x256 .f32) (W : FVec Ideal S256x256 .f32) (b : FVec Ideal S256 .f32)
    (i : Fin 10000) (j : Fin 256) :
    denseV x W b (ix2 i j) = Rows.dense (fun k => x (ix2 i k)) (fun k l => W (ix2 k l)) (fun l => b (ix1 l)) j := by
  pointwise [denseV]
  rfl

/-- The row means at an index. -/
theorem meanV_apply (r : FVec Ideal S10000x256 .f32) (i : Fin 10000) (u : Fin 1) :
    meanV r (ix2 i u) = Rows.mean (fun k => r (ix2 i k)) := by
  pointwise [meanV]
  rfl

/-- The distances from the row means at an index. -/
theorem distV_apply (r : FVec Ideal S10000x256 .f32) (i : Fin 10000) (j : Fin 256) :
    distV r (ix2 i j) = r (ix2 i j) - Rows.mean (fun k => r (ix2 i k)) := by
  pointwise [distV]
  rw [meanV_apply]

/-- The row variances at an index. -/
theorem varV_apply (r : FVec Ideal S10000x256 .f32) (i : Fin 10000) (u : Fin 1) :
    varV r (ix2 i u) = Rows.centredVar (fun k => r (ix2 i k)) := by
  pointwise [varV]
  simp only [distV_apply]
  have hz : (FloatOps.sitofp (F := Ideal) .f32 0#32 : EReal) = 0 := by
    show (((0#32 : BitVec 32).toInt : ℝ) : EReal) = 0
    simp
  have hw : Ideal.ofBits .f32 0x43800000#32 - 0 = width := sub_zero _
  have hpos : 0 < width := by rw [width_eq]; exact_mod_cast (by norm_num : (0 : ℝ) < 256)
  rw [hz, hw, if_pos hpos]
  rfl

/-- The layer norm at an index: the layer norm of the row. -/
theorem normV_apply (r : FVec Ideal S10000x256 .f32) (g b : FVec Ideal S256 .f32) (i : Fin 10000) (j : Fin 256) :
    normV r g b (ix2 i j) = Rows.norm (fun k => r (ix2 i k)) (fun l => g (ix1 l)) (fun l => b (ix1 l)) j := by
  pointwise [normV]
  rw [distV_apply, varV_apply]
  rfl

variable (m : (ℓ : Loc nD τ sig) → Buf (Elt Ideal) ℓ) (c : Dev nD)

/-- The reference's result is its two blocks one after the other. -/
theorem result_eq : res_out0 m c
    = normV (denseV (normV (denseV (m ((c.tc : Thread nD τ).loc main_arg0)) (m ((c.tc : Thread nD τ).loc main_arg6)) (m ((c.tc : Thread nD τ).loc main_arg7)))
        (m ((c.tc : Thread nD τ).loc main_arg8)) (m ((c.tc : Thread nD τ).loc main_arg9)))
        (m ((c.tc : Thread nD τ).loc main_arg10)) (m ((c.tc : Thread nD τ).loc main_arg11)))
        (m ((c.tc : Thread nD τ).loc main_arg12)) (m ((c.tc : Thread nD τ).loc main_arg13)) := rfl

/-- **The reference's result at an index**: the reference's two blocks of the row, read at the column. -/
theorem result_apply (i : Fin 10000) (j : Fin 256) : (res_out0 m c : FVec Ideal S10000x256 .f32) (ix2 i j)
    = Rows.refRow (fun k => (m ((c.tc : Thread nD τ).loc main_arg0) : FVec Ideal S10000x256 .f32) (ix2 i k))
        (fun k l => (m ((c.tc : Thread nD τ).loc main_arg6) : FVec Ideal S256x256 .f32) (ix2 k l))
        (fun l => (m ((c.tc : Thread nD τ).loc main_arg7) : FVec Ideal S256 .f32) (ix1 l))
        (fun l => (m ((c.tc : Thread nD τ).loc main_arg8) : FVec Ideal S256 .f32) (ix1 l))
        (fun l => (m ((c.tc : Thread nD τ).loc main_arg9) : FVec Ideal S256 .f32) (ix1 l))
        (fun k l => (m ((c.tc : Thread nD τ).loc main_arg10) : FVec Ideal S256x256 .f32) (ix2 k l))
        (fun l => (m ((c.tc : Thread nD τ).loc main_arg11) : FVec Ideal S256 .f32) (ix1 l))
        (fun l => (m ((c.tc : Thread nD τ).loc main_arg12) : FVec Ideal S256 .f32) (ix1 l))
        (fun l => (m ((c.tc : Thread nD τ).loc main_arg13) : FVec Ideal S256 .f32) (ix1 l)) j := by
  rw [result_eq, normV_apply]
  simp only [denseV_apply, normV_apply]
  rfl

end Cert.ReferenceIdeal.Value

end
-- ==== Proof.Given.lean ====
/- What the precondition says, read back from its printed form: gains one, shifts zero, and finite data in the arrays the
   kernel reads. -/
module

public import proofs.«01_k».proof.Pre_plain_norms_on_finite_data
public import proofs.«01_k».proof.Proof.Gen.Pre_plain_norms_on_finite_data
public import proofs.«01_k».proof.Proof.Rows
public import Idealize.ShloMosaic.Lib.ReduceAll
public import Idealize.ShloMosaic.Lib.Pointwise

@[expose] public section

set_option maxRecDepth 16384

noncomputable section

namespace Cert.Pre_plain_norms_on_finite_data

open Cert.Pre_plain_norms_on_finite_data Cert.Pre_plain_norms_on_finite_data.Gen Cert.Literals Idealize.ShloMosaic

instance : Subsingleton S_.Idx := ⟨fun a b => funext fun i => i.elim0⟩

/-- A comparison's bit is one exactly when the comparison holds. -/
theorem ofBool_decide {p : Prop} [Decidable p] (h : BitVec.ofBool (decide p) = 1#1) : p := by
  by_contra hp
  simp [hp] at h

/-- `jnp.all(x == y)` over a constant `y`: every element of `x` is the constant. -/
theorem all_eq {S : Shape} {axes : List (Fin S.rank)} (x : FVec Ideal S .f32) (w : BitVec 32)
    (hb : S_.BroadcastsInDim S (![] : Fin 0 → Fin S.rank)) (hr : S.ReducesTo axes S_) (hu : 0 < S_.numel) (j : S_.Idx)
    (e : Host.reduce IntOp.andi (cmpf .oeq x (broadcastInDim S ![] hb (constant S_ .f32 w))) (constantI S_ 1 1#1) hr hu j = 1#1)
    (i : S.Idx) : x i = Ideal.ofBits .f32 w := by
  have h := Host.reduce_andi_all _ _ hr hu j e i
  exact ofBool_decide h

/-- `jnp.all(jnp.abs(x) < jnp.inf)`: every element of `x` is a real number. -/
theorem all_finite {S : Shape} {axes : List (Fin S.rank)} (x : FVec Ideal S .f32)
    (hb : S_.BroadcastsInDim S (![] : Fin 0 → Fin S.rank)) (hr : S.ReducesTo axes S_) (hu : 0 < S_.numel) (j : S_.Idx)
    (e : Host.reduce IntOp.andi (cmpf .olt (Host.absf x) (broadcastInDim S ![] hb (constant S_ .f32 0x7F800000#32)))
      (constantI S_ 1 1#1) hr hu j = 1#1) (i : S.Idx) : Rows.Finite (x i) := by
  have h := ofBool_decide (p := max (x i) (-x i) < Ideal.ofBits .f32 0x7F800000#32) (Host.reduce_andi_all _ _ hr hu j e i)
  rw [infinity_eq] at h
  exact Rows.finite_of_abs_lt _ h

/-- **The precondition read back.** -/
theorem given {v : FVec Ideal S10000x256 .f32} {a1 : IVec S2x160000 32} {a2 : FVec Ideal S160000x16 .f32} {a3 : FVec Ideal S1x64 .f32}
    {a4 : IVec S10000 32} {a5 : IVec S160000 32} {W₁ : FVec Ideal S256x256 .f32} {b₁ g₁ s₁ : FVec Ideal S256 .f32}
    {W₂ : FVec Ideal S256x256 .f32} {b₂ g₂ s₂ : FVec Ideal S256 .f32} (j : S_.Idx)
    (h : fn (F := Ideal) v a1 a2 a3 a4 a5 W₁ b₁ g₁ s₁ W₂ b₂ g₂ s₂ j = 1#1) :
    ((∀ i, g₁ i = 1) ∧ (∀ i, s₁ i = 0) ∧ (∀ i, g₂ i = 1) ∧ ∀ i, s₂ i = 0)
    ∧ (∀ i, Rows.Finite (v i)) ∧ (∀ i, Rows.Finite (W₁ i)) ∧ (∀ i, Rows.Finite (b₁ i)) ∧ (∀ i, Rows.Finite (W₂ i))
    ∧ ∀ i, Rows.Finite (b₂ i) := by
  unfold fn fn_part1 fn_part2 at h
  obtain ⟨h, hb₂⟩ := IntOp.andi_eq_one.1 h
  obtain ⟨h, hW₂⟩ := IntOp.andi_eq_one.1 h
  obtain ⟨h, hb₁⟩ := IntOp.andi_eq_one.1 h
  obtain ⟨h, hW₁⟩ := IntOp.andi_eq_one.1 h
  obtain ⟨h, hv⟩ := IntOp.andi_eq_one.1 h
  obtain ⟨h, hs₂⟩ := IntOp.andi_eq_one.1 h
  obtain ⟨h, hg₂⟩ := IntOp.andi_eq_one.1 h
  obtain ⟨hg₁, hs₁⟩ := IntOp.andi_eq_one.1 h
  refine ⟨⟨fun i => ?_, fun i => ?_, fun i => ?_, fun i => ?_⟩, all_finite _ _ _ _ _ hv, all_finite _ _ _ _ _ hW₁,
    all_finite _ _ _ _ _ hb₁, all_finite _ _ _ _ _ hW₂, all_finite _ _ _ _ _ hb₂⟩
  · exact (all_eq _ _ _ _ _ _ hg₁ i).trans one_eq
  · exact (all_eq _ _ _ _ _ _ hs₁ i).trans zero_eq
  · exact (all_eq _ _ _ _ _ _ hg₂ i).trans one_eq
  · exact (all_eq _ _ _ _ _ _ hs₂ i).trans zero_eq

end Cert.Pre_plain_norms_on_finite_data

end
-- ==== Proof.Agree.lean ====
/- The kernel's result array is the reference's, on arguments that satisfy the precondition. -/
module

public import proofs.«01_k».proof.Proof.Block
public import proofs.«01_k».proof.Proof.Reference
public import proofs.«01_k».proof.Proof.Given

@[expose] public section

set_option maxRecDepth 16384

noncomputable section

namespace Cert.Agree

open Idealize.ShloMosaic Idealize.ShloMosaic.TcCoe

variable (m' : (ℓ : Loc ReferenceIdeal.nD ReferenceIdeal.τ ReferenceIdeal.sig) → Buf (Elt Ideal) ℓ) (c : Dev ReferenceIdeal.nD)

/-- **The reference's result is the kernel's result array**, for any arrays `v … s₂` that the reference's memory holds as
    its arguments and of which the precondition holds. -/
theorem result_eq {v : FVec Ideal ReferenceIdeal.S10000x256 .f32} {a1 : IVec Pre_plain_norms_on_finite_data.S2x160000 32}
    {a2 : FVec Ideal Pre_plain_norms_on_finite_data.S160000x16 .f32} {a3 : FVec Ideal Pre_plain_norms_on_finite_data.S1x64 .f32}
    {a4 : IVec Pre_plain_norms_on_finite_data.S10000 32} {a5 : IVec Pre_plain_norms_on_finite_data.S160000 32}
    {W₁ : FVec Ideal ReferenceIdeal.S256x256 .f32} {b₁ g₁ s₁ : FVec Ideal ReferenceIdeal.S256 .f32}
    {W₂ : FVec Ideal ReferenceIdeal.S256x256 .f32} {b₂ g₂ s₂ : FVec Ideal ReferenceIdeal.S256 .f32}
    (hv : m' ((c.tc : Thread ReferenceIdeal.nD ReferenceIdeal.τ).loc ReferenceIdeal.main_arg0) = v)
    (hW₁ : m' ((c.tc : Thread ReferenceIdeal.nD ReferenceIdeal.τ).loc ReferenceIdeal.main_arg6) = W₁)
    (hb₁ : m' ((c.tc : Thread ReferenceIdeal.nD ReferenceIdeal.τ).loc ReferenceIdeal.main_arg7) = b₁)
    (hg₁ : m' ((c.tc : Thread ReferenceIdeal.nD ReferenceIdeal.τ).loc ReferenceIdeal.main_arg8) = g₁)
    (hs₁ : m' ((c.tc : Thread ReferenceIdeal.nD ReferenceIdeal.τ).loc ReferenceIdeal.main_arg9) = s₁)
    (hW₂ : m' ((c.tc : Thread ReferenceIdeal.nD ReferenceIdeal.τ).loc ReferenceIdeal.main_arg10) = W₂)
    (hb₂ : m' ((c.tc : Thread ReferenceIdeal.nD ReferenceIdeal.τ).loc ReferenceIdeal.main_arg11) = b₂)
    (hg₂ : m' ((c.tc : Thread ReferenceIdeal.nD ReferenceIdeal.τ).loc ReferenceIdeal.main_arg12) = g₂)
    (hs₂ : m' ((c.tc : Thread ReferenceIdeal.nD ReferenceIdeal.τ).loc ReferenceIdeal.main_arg13) = s₂)
    (hpre : Pre_plain_norms_on_finite_data.fn (F := Ideal) v a1 a2 a3 a4 a5 W₁ b₁ g₁ s₁ W₂ b₂ g₂ s₂ = fun _ => 1#1) :
    (ReferenceIdeal.Value.res_out0 m' c : FVec Ideal ReferenceIdeal.S10000x256 .f32)
      = KernelIdeal.Value.result v W₁ b₁ W₂ b₂ := by
  obtain ⟨⟨g1, s1, g2, s2⟩, fv, fW1, fb1, fW2, fb2⟩ :=
    Pre_plain_norms_on_finite_data.given (fun i => i.elim0) (congrFun hpre _)
  funext y
  idx_vars y
  refine (ReferenceIdeal.Value.result_apply m' c y0 y1).trans ?_
  rw [hv, hW₁, hb₁, hg₁, hs₁, hW₂, hb₂, hg₂, hs₂]
  exact (congrFun (Rows.kerRow_eq_refRow (fun k => fv _) (fun k l => fW1 _) (fun l => fb1 _) (fun k l => fW2 _)
    (fun l => fb2 _) (fun l => g1 _) (fun l => s1 _) (fun l => g2 _) (fun l => s2 _)) y1).symm

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_plain_norms_on_finite_data
public import proofs.«01_k».proof.Proof.Agree
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as printed terminates, keeps its arguments and leaves every semaphore at zero. -/
theorem frame_kernel : Cert.quiescent_Kernel (hKernel := Cert.Kernel.Gen.facts) := fun m g _ => Cert.Kernel.Gen.frame m g

/-- The same of the kernel read over extended reals. -/
theorem frame_ideal : Cert.quiescent_KernelIdeal (hKernelIdeal := Cert.KernelIdeal.Gen.facts) :=
  fun m g _ => Cert.KernelIdeal.Gen.frame m g

/-- The same of it under the value claim's precondition. -/
theorem frame_ideal_pre : Cert.quiescent_KernelIdeal_pre_plain_norms_on_finite_data (hKernelIdeal := Cert.KernelIdeal.Gen.facts)
    (hPre_plain_norms_on_finite_data := Cert.Pre_plain_norms_on_finite_data.Gen.facts) :=
  fun m g _ => Cert.KernelIdeal.Gen.frame m g

/-- The same of the reference, which declares no semaphore. -/
theorem frame_reference : Cert.quiescent_ReferenceIdeal (hReferenceIdeal := Cert.ReferenceIdeal.Gen.facts) :=
  fun m g _ => θ_run_mono (Cert.ReferenceIdeal.Value.run m g) fun r h =>
    ⟨fun c => (h c).2, sem_eq_zero_of_no_sems (by decide) r.2⟩

/-- The same of the reference under the value claim's precondition. -/
theorem frame_reference_pre : Cert.quiescent_ReferenceIdeal_pre_plain_norms_on_finite_data
    (hReferenceIdeal := Cert.ReferenceIdeal.Gen.facts)
    (hPre_plain_norms_on_finite_data := Cert.Pre_plain_norms_on_finite_data.Gen.facts) :=
  fun m g _ => frame_reference m g trivial

/-- **The value claim**: from memories that agree on the arguments and satisfy the precondition, the kernel and the reference
    leave the same result array. -/
theorem value : Cert.algebraic_KernelIdeal_ReferenceIdeal_pre_plain_norms_on_finite_data
    (hKernelIdeal := Cert.KernelIdeal.Gen.facts) (hReferenceIdeal := Cert.ReferenceIdeal.Gen.facts)
    (hPre_plain_norms_on_finite_data := Cert.Pre_plain_norms_on_finite_data.Gen.facts) := by
  intro m g m' g' hpre hagree
  refine ⟨fun c => (Cert.KernelIdeal.Gen.dats m 0 c).arrAt 5 Cert.KernelIdeal.cfg0.N, ?_, ?_⟩
  · exact θ_run_mono (Cert.KernelIdeal.Value.run_blocks m g) fun r h c => h c
  · refine θ_run_mono (Cert.ReferenceIdeal.Value.run m' g') fun r h c => ⟨(h c).1.trans ?_, (h c).2⟩
    obtain ⟨h0, -, -, -, -, -, h6, h7, h8, h9, h10, h11, h12, h13⟩ := hagree c
    exact (Cert.Agree.result_eq m' c h0 h6 h7 h8 h9 h10 h11 h12 h13 (hpre c)).trans (Cert.KernelIdeal.Value.final m c).symm

/-- The certificate's claim. -/
theorem claim : Cert.Claim :=
  ⟨Cert.Kernel.Gen.facts, Cert.KernelIdeal.Gen.facts, Cert.ReferenceIdeal.Gen.facts, Cert.Pre_plain_norms_on_finite_data.Gen.facts,
    frame_kernel, frame_ideal, frame_ideal_pre, frame_reference, frame_reference_pre, trivial, value⟩

end Cert.Proof

end
